-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "fifth" .f32 0x3E4CCCCD#32 ((1 / 5 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S1x2048x1024 : Shape := ⟨3, ![1, 2048, 1024]⟩
abbrev S5x1024 : Shape := ⟨2, ![5, 1024]⟩
abbrev S2048x1024 : Shape := ⟨2, ![2048, 1024]⟩
abbrev S1x512x1024 : Shape := ⟨3, ![1, 512, 1024]⟩
abbrev S512x1024 : Shape := ⟨2, ![512, 1024]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1x2048x1024, .f32⟩
  | .hbm, ⟨2, _⟩ => ⟨S5x1024, .f32⟩
  | .hbm, ⟨3, _⟩ => ⟨S2048x1024, .f32⟩
  | .hbm, ⟨4, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S5x1024, .f32⟩
  | .local _ .vmem, ⟨5, _⟩ => ⟨S1x512x1024, .f32⟩
  | .local _ .vmem, ⟨6, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S5x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "fifth" => some ((1 / 5 : ℝ) : EReal)
  | _ => none
-- ==== ReferenceIdeal.lean ====
abbrev S2x2048x1024 : Shape := ⟨3, ![2, 2048, 1024]⟩
abbrev S1x2048x1024 : Shape := ⟨3, ![1, 2048, 1024]⟩
abbrev S5x1024 : Shape := ⟨2, ![5, 1024]⟩
abbrev S10 : Shape := ⟨1, ![10]⟩
abbrev S1x1x10 : Shape := ⟨3, ![1, 1, 10]⟩
abbrev S2x2048x10 : Shape := ⟨3, ![2, 2048, 10]⟩
abbrev S_ : Shape := ⟨0, ![]⟩
abbrev S2x2048x10x1 : Shape := ⟨4, ![2, 2048, 10, 1]⟩
abbrev S1 : Shape := ⟨1, ![1]⟩
abbrev S1x1x1x1 : Shape := ⟨4, ![1, 1, 1, 1]⟩
abbrev S2x2048x10x1024 : Shape := ⟨4, ![2, 2048, 10, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x2048x1024, .f32⟩
  | .hbm, ⟨2, _⟩ => ⟨S5x1024, .f32⟩
  | .hbm, ⟨3, _⟩ => ⟨S10, .i32⟩
  | .hbm, ⟨4, _⟩ => ⟨S2x2048x1024, .f32⟩
  | .hbm, ⟨5, _⟩ => ⟨S2x2048x1024, .f32⟩
  | .hbm, ⟨6, _⟩ => ⟨S1x1x10, .i32⟩
  | .hbm, ⟨7, _⟩ => ⟨S2x2048x10, .i32⟩
  | .hbm, ⟨8, _⟩ => ⟨S_, .i32⟩
  | .hbm, ⟨9, _⟩ => ⟨S2x2048x10, .i32⟩
  | .hbm, ⟨10, _⟩ => ⟨S2x2048x10, .i1⟩
  | .hbm, ⟨11, _⟩ => ⟨S_, .i32⟩
  | .hbm, ⟨12, _⟩ => ⟨S2x2048x10, .i32⟩
  | .hbm, ⟨13, _⟩ => ⟨S2x2048x10, .i32⟩
  | .hbm, ⟨14, _⟩ => ⟨S2x2048x10, .i32⟩
  | .hbm, ⟨15, _⟩ => ⟨S2x2048x10x1, .i32⟩
  | .hbm, ⟨16, _⟩ => ⟨S1, .i32⟩
  | .hbm, ⟨17, _⟩ => ⟨S_, .i32⟩
  | .hbm, ⟨18, _⟩ => ⟨S2x2048x10x1, .i32⟩
  | .hbm, ⟨19, _⟩ => ⟨S2x2048x10x1, .i1⟩
  | .hbm, ⟨20, _⟩ => ⟨S1x1x1x1, .i32⟩
  | .hbm, ⟨21, _⟩ => ⟨S2x2048x10x1, .i32⟩
  | .hbm, ⟨22, _⟩ => ⟨S2x2048x10x1, .i1⟩
  | .hbm, ⟨23, _⟩ => ⟨S2x2048x10x1, .i1⟩
  | .hbm, ⟨24, _⟩ => ⟨S_, .i1⟩
  | .hbm, ⟨25, _⟩ => ⟨S2x2048x10, .i1⟩
  | .hbm, ⟨26, _⟩ => ⟨S2x2048x10x1024, .f32⟩
  | .hbm, ⟨27, _⟩ => ⟨S2x2048x10x1024, .i1⟩
  | .hbm, ⟨28, _⟩ => ⟨S_, .f32⟩
  | .hbm, ⟨29, _⟩ => ⟨S2x2048x10x1024, .f32⟩
  | .hbm, ⟨30, _⟩ => ⟨S2x2048x10x1024, .f32⟩
  | .hbm, ⟨31, _⟩ => ⟨S_, .f32⟩
  | .hbm, ⟨32, _⟩ => ⟨S2x2048x1024, .f32⟩
  | .hbm, ⟨33, _⟩ => ⟨S_, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩

abbrev nD : Nat := 1
abbrev τ : Topo := Topo.v7x

variable {F : FTy → Type} [FloatOps F]
-- ==== Proof.Enc.Spec.lean ====
/- What the encoding layer computes, as one function of its three argument arrays over the extended reals. -/
module

public import Idealize.ShloMosaic.PureOps.Ideal.Laws
public import Idealize.ShloMosaic.Lib.Pointwise

@[expose] public section

noncomputable section

namespace Cert.Enc

open Idealize.ShloMosaic

/-- The encoded activations: at batch `b`, position `q` and feature `d`, the input `x[b, q, d]` plus the positional
    row `pos[0, q, d]` plus a fifth of the sum of the five spatial rows at `d`. -/
def encoded (x : (⟨3, ![2, 2048, 1024]⟩ : Shape).Idx → EReal) (pos : (⟨3, ![1, 2048, 1024]⟩ : Shape).Idx → EReal)
    (spatial : (⟨2, ![5, 1024]⟩ : Shape).Idx → EReal) : (⟨3, ![2, 2048, 1024]⟩ : Shape).Idx → EReal :=
  fun i => x i + pos (ix3 0 (i 1) (i 2)) + (∑ r : Fin 5, spatial (ix2 r (i 2))) * ((1 / 5 : ℝ) : EReal)

end Cert.Enc

end
-- ==== Proof.Enc.Block.lean ====
/- What one grid point of the kernel leaves in its block of the result, over the extended reals: element by element,
   the input block plus the positional block plus a fifth of the column sums of the five spatial rows. -/
module

public import proofs.«01_k».proof.Proof.Gen.KernelIdeal.Value
public import Idealize.ShloMosaic.Lib.Pointwise

@[expose] public section

noncomputable section

namespace Cert.Enc

open Cert.KernelIdeal Cert.KernelIdeal.Gen Cert.KernelIdeal.Value Idealize.ShloMosaic Idealize.ShloMosaic.TcCoe

theorem zeros2 : (![0, 0] : Fin 2 → Nat) = fun _ => 0 := funext fun a => by fin_cases a <;> rfl
theorem zeros3 : (![0, 0, 0] : Fin 3 → Nat) = fun _ => 0 := funext fun a => by fin_cases a <;> rfl

/-- The named constant of the kernel is the real one fifth. -/
theorem named_fifth : (Named.named (F := Ideal) κ "fifth" (φ := .f32) 0x3E4CCCCD#32 : EReal) = ((1 / 5 : ℝ) : EReal) :=
  IdealRules.named_const.ideal_named_scalar _ _ _ _ rfl

/-- The sum over the five rows, read at feature `d`. -/
theorem colsum_apply (s : Vec Ideal S5x1024 .f32) (d : S1024.Idx) :
    (multiReduction (F := Ideal) .add [0] S1024 s 0x00000000#32 reduces_S5x1024_S1024 (.inl rfl) rfl) d
      = ∑ r : Fin 5, s (ix2 r (d 0)) :=
  Ideal.reduceAdd_r2_a0 reduces_S5x1024_S1024 s d

/-- The block a grid point leaves, at block index `y`. -/
theorem out_apply (x : Vec Ideal S1x512x1024 .f32) (p : Vec Ideal S512x1024 .f32) (s : Vec Ideal S5x1024 .f32)
    (y : S1x512x1024.Idx) :
    out0_3 x p s y = (x y + p (ix2 (y 1) (y 2)) + (∑ r : Fin 5, s (ix2 r (y 2))) * ((1 / 5 : ℝ) : EReal) : EReal) := by
  unfold out0_3
  rw [View.ld_unit_zero zeros2, View.ld_unit_zero zeros3, View.ld_unit_zero zeros2, canon3_eq]
  have hx : ix3_0 y = y := funext fun a => Fin.ext (by
    match a with
    | ⟨0, _⟩ => show 0 = (y 0).val; have : (y 0).val < 1 := (y 0).isLt; omega
    | ⟨1, _⟩ => rfl
    | ⟨2, _⟩ => rfl)
  have hp : ix3_1 y = ix2 (y 1) (y 2) := funext fun a => by
    match a with
    | ⟨0, _⟩ => rfl
    | ⟨1, _⟩ => rfl
  show (x (ix3_0 y) + p (ix3_1 y) + (multiReduction (F := Ideal) .add [0] S1024 s 0x00000000#32 reduces_S5x1024_S1024 (.inl rfl) rfl) (ix3_2 y)
    * Named.named (F := Ideal) κ "fifth" (φ := .f32) 0x3E4CCCCD#32 : EReal) = _
  rw [hx, hp, colsum_apply, named_fifth]
  rfl

end Cert.Enc

end
-- ==== Proof.Enc.KernelValue.lean ====
/- The kernel's result array as one function of its arguments (`encoded`): each grid point writes its block of that
   function, the blocks cover the array, so the array after the run is the function. -/
module

public import proofs.«01_k».proof.Proof.Enc.Spec
public import proofs.«01_k».proof.Proof.Enc.Block
public import Idealize.ShloMosaic.Lib.StableHlo.Run

@[expose] public section

noncomputable section

namespace Cert.Enc

open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-- Dropping the leading axis of extent one keeps each element at its other two coordinates. -/
theorem drop_unit_apply (v : S1x2048x1024.Idx → EReal) (j : S2048x1024.Idx) :
    shapeCast S2048x1024 v shapeCasts_S1x2048x1024_S2048x1024 j = v (ix3 0 (j 0) (j 1)) := by
  refine shapeCast_apply _ _ _ _ ?_
  rw [Shape.rowMajor_val_two, Shape.rowMajor_val_three]
  show (0 * 2048 + (j 0).val) * 1024 + (j 1).val = (j 0).val * 1024 + (j 1).val
  omega

/-- The positional argument as the pipeline stages it: the host has dropped its axis of extent one. -/
theorem staged_pos (c : Dev nD) (j : S2048x1024.Idx) :
    V m c main_v0 j = m ((c : Thread nD τ).loc main_arg1) (ix3 0 (j 0) (j 1)) := by
  have h : V m c main_v0 = shapeCast S2048x1024 (m ((c : Thread nD τ).loc main_arg1)) shapeCasts_S1x2048x1024_S2048x1024 := by
    simp only [V, hostOps0, List.flatten_cons, List.flatten_nil, List.append_nil]
    after_results_simp <;> rfl
  rw [h]
  exact drop_unit_apply _ j

/-- The block indices of the four windows at a grid point: the input and the result move together over batch and
    position, the positional rows over the position alone, the spatial rows stay. -/
theorem block_index : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = win0_3.index t (1 : Fin 3) ∧ win0_1.index t (1 : Fin 2) = 0
    ∧ win0_2.index t (0 : Fin 2) = 0 ∧ win0_2.index t (1 : Fin 2) = 0 :=
  (by decide +kernel : ∀ t : Fin grid0.N, _)

/-- Every pair of a batch and a stretch of positions is some grid point's block of the result. -/
theorem block_of (b : Fin 2) (q : Fin 4) : ∃ t : Fin cfg0.N,
    win0_3.index t (0 : Fin 3) = b.val ∧ win0_3.index t (1 : Fin 3) = q.val ∧ win0_3.index t (2 : Fin 3) = 0 :=
  (by decide +kernel : ∀ (b : Fin 2) (q : Fin 4), ∃ t : Fin grid0.N,
    win0_3.index t (0 : Fin 3) = b.val ∧ win0_3.index t (1 : Fin 3) = q.val ∧ win0_3.index t (2 : Fin 3) = 0) b q

/-- The layer's function of the arguments as launched on core `c`. -/
abbrev result (c : Dev nD) : S2x2048x1024.Idx → EReal :=
  encoded (m ((c : Thread nD τ).loc main_arg0)) (m ((c : Thread nD τ).loc main_arg1)) (m ((c : Thread nD τ).loc main_arg2))

/-- What grid point `t` writes back is its block of the layer's function. -/
theorem flushed_eq (c : Dev nD) (t : Fin cfg0.N) :
    (dats m 0 c).flushed 3 t = ((cfg0.win 3).blk t).view.read (Elt Ideal) (result m c) := by
  obtain ⟨h00, h01, h02, h32, h10, h11, h20, h21⟩ := block_index t
  rw [flushed3]
  funext y
  show out0_3 (iblk m c 0 t) (iblk m c 1 t) (iblk m c 2 t) y = result m c (((cfg0.win 3).blk t).view.emb y)
  rw [out_apply]
  have hx : ((cfg0.win 0).blk t).view.emb y = ((cfg0.win 3).blk t).view.emb y := funext fun a => Fin.ext (by
    match a with
    | ⟨0, _⟩ => show win0_0.index t (0 : Fin 3) * 1 + 1 * (y 0).val = win0_3.index t (0 : Fin 3) * 1 + 1 * (y 0).val; omega
    | ⟨1, _⟩ => show win0_0.index t (1 : Fin 3) * 512 + 1 * (y 1).val = win0_3.index t (1 : Fin 3) * 512 + 1 * (y 1).val; omega
    | ⟨2, _⟩ => show win0_0.index t (2 : Fin 3) * 1024 + 1 * (y 2).val = win0_3.index t (2 : Fin 3) * 1024 + 1 * (y 2).val; omega)
  have hp0 : ((((cfg0.win 1).blk t).view.emb (ix2 (y 1) (y 2)) : S2048x1024.Idx) 0) = (((cfg0.win 3).blk t).view.emb y : S2x2048x1024.Idx) 1 :=
    Fin.ext (by show win0_1.index t (0 : Fin 2) * 512 + 1 * (y 1).val = win0_3.index t (1 : Fin 3) * 512 + 1 * (y 1).val; omega)
  have hp1 : ((((cfg0.win 1).blk t).view.emb (ix2 (y 1) (y 2)) : S2048x1024.Idx) 1) = (((cfg0.win 3).blk t).view.emb y : S2x2048x1024.Idx) 2 :=
    Fin.ext (by show win0_1.index t (1 : Fin 2) * 1024 + 1 * (y 2).val = win0_3.index t (2 : Fin 3) * 1024 + 1 * (y 2).val; omega)
  have hs : ∀ r : Fin 5, ((cfg0.win 2).blk t).view.emb (ix2 r (y 2))
      = ix2 r ((((cfg0.win 3).blk t).view.emb y : S2x2048x1024.Idx) 2) := fun r => funext fun a => Fin.ext (by
    match a with
    | ⟨0, _⟩ => show win0_2.index t (0 : Fin 2) * 5 + 1 * r.val = r.val; omega
    | ⟨1, _⟩ => show win0_2.index t (1 : Fin 2) * 1024 + 1 * (y 2).val = win0_3.index t (2 : Fin 3) * 1024 + 1 * (y 2).val; omega)
  have ex : iblk m c 0 t y = m ((c : Thread nD τ).loc main_arg0) (((cfg0.win 3).blk t).view.emb y) := by
    show V m c main_arg0 (((cfg0.win 0).blk t).view.emb y) = _
    rw [hx, V_main_arg0]
  have ep : iblk m c 1 t (ix2 (y 1) (y 2)) = m ((c : Thread nD τ).loc main_arg1)
      (ix3 0 ((((cfg0.win 3).blk t).view.emb y : S2x2048x1024.Idx) 1) ((((cfg0.win 3).blk t).view.emb y : S2x2048x1024.Idx) 2)) := by
    show V m c main_v0 (((cfg0.win 1).blk t).view.emb (ix2 (y 1) (y 2))) = _
    rw [staged_pos, hp0, hp1]
  have es : ∀ r : Fin 5, iblk m c 2 t (ix2 r (y 2)) = m ((c : Thread nD τ).loc main_arg2)
      (ix2 r ((((cfg0.win 3).blk t).view.emb y : S2x2048x1024.Idx) 2)) := fun r => by
    show V m c main_arg2 (((cfg0.win 2).blk t).view.emb (ix2 r (y 2))) = _
    rw [hs, V_main_arg2]
    rfl
  rw [ex, ep]
  simp only [es]
  rfl

/-- Every index of the result array lies in some grid point's block. -/
theorem covered (i : S2x2048x1024.Idx) :
    ∃ t : Fin cfg0.N, (cfg0.win 3).flush t = true ∧ i ∈ ((cfg0.win 3).blk t).view.set := by
  have h0 : (i 0).val < 2 := (i 0).isLt
  have h1 : (i 1).val < 2048 := (i 1).isLt
  have h2 : (i 2).val < 1024 := (i 2).isLt
  obtain ⟨t, e0, e1, e2⟩ := block_of ⟨(i 0).val, h0⟩ ⟨(i 1).val / 512, by omega⟩
  replace e0 : win0_3.index t (0 : Fin 3) = (i 0).val := e0
  replace e1 : win0_3.index t (1 : Fin 3) = (i 1).val / 512 := e1
  refine ⟨t, flush0_3 t, ?_⟩
  let y : S1x512x1024.Idx := ix3 0 ⟨(i 1).val % 512, Nat.mod_lt _ (by omega)⟩ ⟨(i 2).val, h2⟩
  have hy : ((cfg0.win 3).blk t).view.emb y = i := funext fun a => Fin.ext (by
    match a with
    | ⟨0, _⟩ => show win0_3.index t (0 : Fin 3) * 1 + 1 * 0 = (i 0).val; omega
    | ⟨1, _⟩ => show win0_3.index t (1 : Fin 3) * 512 + 1 * ((i 1).val % 512) = (i 1).val; omega
    | ⟨2, _⟩ => show win0_3.index t (2 : Fin 3) * 1024 + 1 * (i 2).val = (i 2).val; omega)
  rw [← hy]
  exact ((cfg0.win 3).blk t).view.emb_mem_set y

/-- The result array after the run is the layer's function of the arguments. -/
theorem final (c : Dev nD) : (dats m 0 c).arrAt 3 cfg0.N = result m c :=
  (dats m 0 c).arrAt_eq_of_cover 3 (result m c) (fun t _ => flushed_eq m c t) covered

/-- Every run of the kernel ends with the layer's function of the arguments in the result array,
    the arguments as launched. -/
theorem kernel_run : θ_run defs (onTc (τ := τ) (main (F := Ideal))) ⟨m, fun _ => 0, ρ⟩ fun r => ∀ c : Dev nD,
    r.2.mem ((c : Thread nD τ).loc main_v1) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (final m c), (h c).2⟩) (run_blocks m ρ)

end Cert.Enc

end
-- ==== Proof.Enc.Mean.lean ====
/- The arithmetic of the spatial term over the extended reals: the mean of ten summands, in which each of five
   numbers stands twice, is a fifth of the sum of the five. -/
module

public import Idealize.ShloMosaic.PureOps.Ideal.Laws

@[expose] public section

noncomputable section

namespace Cert.Enc

open Idealize.ShloMosaic

/-- The f32 word of `10.0` denotes the real ten. -/
theorem ofBits_ten : Ideal.ofBits .f32 0x41200000#32 = ((10 : ℝ) : EReal) := by
  simp [Ideal.ofBits, Ideal.ieee, -EReal.coe_mul]; norm_num

/-- A tenth of an extended real added to itself is a fifth of it, the infinite ones included. -/
theorem double_tenth (S : EReal) : Ideal.div (S + S) ((10 : ℝ) : EReal) = S * ((1 / 5 : ℝ) : EReal) := by
  rw [Ideal.div_coe (by norm_num)]
  induction S with
  | bot => rw [EReal.bot_add, EReal.bot_mul_coe_of_pos (by norm_num), EReal.bot_mul_coe_of_pos (by norm_num)]
  | coe a =>
    norm_cast
    push_cast
    ring
  | top =>
    rw [show (⊤ : EReal) + ⊤ = ⊤ from rfl, EReal.top_mul_coe_of_pos (by norm_num), EReal.top_mul_coe_of_pos (by norm_num)]

/-- Ten summands, the `k`-th of them number `⌊k / 2⌋` of five, add up to the five numbers' sum twice. -/
theorem sum_pairs (a : Fin 5 → EReal) :
    ∑ k : Fin 10, a ⟨k.val / 2, by omega⟩ = (∑ r, a r) + ∑ r, a r := by
  simp only [Fin.sum_univ_castSucc, Fin.sum_univ_zero, zero_add]
  show a 0 + a 0 + a 1 + a 1 + a 2 + a 2 + a 3 + a 3 + a 4 + a 4
    = a 0 + a 1 + a 2 + a 3 + a 4 + (a 0 + a 1 + a 2 + a 3 + a 4)
  abel

/-- The mean of the ten is a fifth of the sum of the five. -/
theorem mean_pairs (a : Fin 5 → EReal) :
    Ideal.div (0 + ∑ k : Fin 10, a ⟨k.val / 2, by omega⟩) ((10 : ℝ) : EReal) = (∑ r, a r) * ((1 / 5 : ℝ) : EReal) := by
  rw [zero_add, sum_pairs, double_tenth]

end Cert.Enc

end
-- ==== Proof.Enc.Lookup.lean ====
/- The reference's table lookup, read at an index: its integer row numbers are in range, so the wrap of negative
   numbers and the fill of out-of-range rows change nothing, and slot `k` of the ten is spatial row `⌊k / 2⌋`. -/
module

public import proofs.«01_k».proof.Proof.Gen.ReferenceIdeal.Run
public import Idealize.ShloMosaic.Lib.Pointwise
public import Idealize.ShloMosaic.Lib.Pipeline.Value
public import Idealize.ShloMosaic.PureOps.Reduce

@[expose] public section

noncomputable section

namespace Cert.Enc

open Cert.ReferenceIdeal Cert.ReferenceIdeal.Gen Idealize.ShloMosaic

/-- The ten plate numbers, one row of them for every batch and position. -/
def plates : IVec S2x2048x10 32 :=
  broadcastInDim S2x2048x10 ![0, 1, 2] bcast_S1x1x10_S2x2048x10_0_1_2
    (broadcastInDim S1x1x10 ![2] bcast_S10_S1x1x10_2 (fun i => lit0 (S10.rowMajor i)))

/-- The row numbers the lookup reads: a negative number counts from the end. -/
def rows : IVec S2x2048x10x1 32 :=
  broadcastInDim S2x2048x10x1 ![0, 1, 2] bcast_S2x2048x10_S2x2048x10x1_0_1_2
    (select (cmpi .slt plates (broadcastInDim S2x2048x10 ![] bcast_S_S2x2048x10 (constantI S_ 32 0#32)))
      (addi plates (broadcastInDim S2x2048x10 ![] bcast_S_S2x2048x10 (constantI S_ 32 5#32))) plates)

/-- Whether each row number is one of the table's. -/
def inRange : IVec S2x2048x10x1 1 :=
  andi (cmpi .sge rows (broadcastInDim S2x2048x10x1 ![] bcast_S_S2x2048x10x1 (constantI S_ 32 0#32)))
    (cmpi .sle rows (broadcastInDim S2x2048x10x1 ![0, 1, 2, 3] bcast_S1x1x1x1_S2x2048x10x1_0_1_2_3
      (broadcastInDim S1x1x1x1 ![3] bcast_S1_S1x1x1x1_3 (constantI S1 32 4#32))))

/-- The looked-up rows of the spatial table, a row out of range filled. -/
def looked (s : Vec Ideal S5x1024 .f32) : Vec Ideal S2x2048x10x1024 .f32 :=
  select (broadcastInDim S2x2048x10x1024 ![0, 1, 2] bcast_S2x2048x10_S2x2048x10x1024_0_1_2
      (Host.reduce IntOp.andi inRange (constantI S_ 1 1#1) reducesTo_S2x2048x10x1_S2x2048x10_d3 h_S_))
    (Host.gather gather_S5x1024_S2x2048x10x1_S2x2048x10x1024_3_0_n_n_0_3_11024 s rows)
    (broadcastInDim S2x2048x10x1024 ![] bcast_S_S2x2048x10x1024 (constant (F := Ideal) S_ .f32 0x7FC00000#32))

/-- Slot `k` holds plate number `k`. -/
theorem plates_apply (a : Fin 2) (b : Fin 2048) (k : Fin 10) : plates (ix3 a b k) = lit0 k := by
  refine (broadcastInDim_apply _ _ _ _ (ix3 0 0 k : S1x1x10.Idx) (fun d => ?_)).trans ?_
  · match d with
    | ⟨0, _⟩ => rfl
    | ⟨1, _⟩ => rfl
    | ⟨2, _⟩ => rfl
  refine (broadcastInDim_apply _ _ _ _ (ix1 k : S10.Idx) (fun d => ?_)).trans ?_
  · match d with
    | ⟨0, _⟩ => rfl
  exact congrArg lit0 (Fin.ext (Shape.rowMajor_val_one _))

/-- No plate number is negative, so the wrap leaves each as it is. -/
theorem wrap_lit : ∀ k : Fin 10, Scalar.select (IntOp.cmpi .slt (lit0 k) 0#32) (IntOp.addi (lit0 k) 5#32) (lit0 k) = lit0 k := by
  decide

/-- Each row number is the plate number of its slot. -/
theorem rows_apply (y : S2x2048x10x1.Idx) : rows y = lit0 (y 2) := by
  refine (broadcastInDim_apply _ _ _ _ (ix3 (y 0) (y 1) (y 2) : S2x2048x10.Idx) (fun d => ?_)).trans ?_
  · match d with
    | ⟨0, _⟩ => rfl
    | ⟨1, _⟩ => rfl
    | ⟨2, _⟩ => rfl
  refine Eq.trans ?_ (wrap_lit (y 2))
  exact congrArg (fun w => Scalar.select (IntOp.cmpi .slt w 0#32) (IntOp.addi w 5#32) w) (plates_apply (y 0) (y 1) (y 2))

/-- Each plate number lies between zero and four. -/
theorem range_lit : ∀ k : Fin 10, IntOp.andi (IntOp.cmpi .sge (lit0 k) 0#32) (IntOp.cmpi .sle (lit0 k) 4#32) = 1#1 := by
  decide

/-- So every row number is in range. -/
theorem inRange_apply (y : S2x2048x10x1.Idx) : inRange y = 1#1 := by
  show IntOp.andi (IntOp.cmpi .sge (rows y) 0#32) (IntOp.cmpi .sle (rows y) 4#32) = 1#1
  rw [rows_apply]
  exact range_lit _

/-- Folding "and" over any list of truths from truth is truth. -/
theorem foldl_and_true {ι : Type} (f : ι → BitVec 1) (hf : ∀ i, f i = 1#1) (l : List ι) :
    l.foldl (fun r i => IntOp.andi r (f i)) 1#1 = 1#1 := by
  induction l with
  | nil => rfl
  | cons i l ih =>
    rw [List.foldl_cons, hf i]
    exact ih

/-- The lookup's mask is true everywhere. -/
theorem mask_apply (y : S2x2048x10.Idx) :
    Host.reduce IntOp.andi inRange (constantI S_ 1 1#1) reducesTo_S2x2048x10x1_S2x2048x10_d3 h_S_ y = 1#1 := by
  rw [Host.reduce_eq_foldl]
  exact foldl_and_true inRange inRange_apply _

/-- The clamped plate number of slot `k` is `⌊k / 2⌋`. -/
theorem row_lit : ∀ k : Fin 10, min (lit0 k).toInt.toNat 4 = k.val / 2 := by decide

/-- The gather at an index: the row of the slot, at the feature. -/
theorem gather_apply (s : Vec Ideal S5x1024 .f32) (y : S2x2048x10x1024.Idx) :
    Host.gather gather_S5x1024_S2x2048x10x1_S2x2048x10x1024_3_0_n_n_0_3_11024 s rows y
      = s (ix2 ⟨(y 2).val / 2, by have : (y 2).val < 10 := (y 2).isLt; omega⟩ (y 3)) := by
  unfold Host.gather
  refine congrArg s (funext fun a => Fin.ext ?_)
  show gather_S5x1024_S2x2048x10x1_S2x2048x10x1024_3_0_n_n_0_3_11024.start y rows a
    + gather_S5x1024_S2x2048x10x1_S2x2048x10x1024_3_0_n_n_0_3_11024.batchCoord y a
    + gather_S5x1024_S2x2048x10x1_S2x2048x10x1024_3_0_n_n_0_3_11024.offCoord y a = _
  rw [GatherDims.batchCoord_eq_zero _ _ _ List.not_mem_nil]
  match a with
  | ⟨0, h⟩ =>
    rw [GatherDims.offCoord_eq_zero _ _ _ (fun h => ((GatherDims.mem_sKept _ _).mp h).1 (List.mem_singleton.mpr rfl))]
    unfold GatherDims.start
    rw [dif_pos (show ⟨0, h⟩ ∈ gather_S5x1024_S2x2048x10x1_S2x2048x10x1024_3_0_n_n_0_3_11024.startIndexMap from List.mem_singleton.mpr rfl), rows_apply]
    exact row_lit (y 2)
  | ⟨1, h⟩ =>
    unfold GatherDims.start
    rw [dif_neg (show ⟨1, h⟩ ∉ gather_S5x1024_S2x2048x10x1_S2x2048x10x1024_3_0_n_n_0_3_11024.startIndexMap
      from fun e => Nat.one_ne_zero (congrArg Fin.val (List.mem_singleton.mp e)))]
    show 0 + 0 + (y 3).val = (y 3).val
    omega

/-- The looked-up table at an index. -/
theorem looked_apply (s : Vec Ideal S5x1024 .f32) (y : S2x2048x10x1024.Idx) :
    looked s y = s (ix2 ⟨(y 2).val / 2, by have : (y 2).val < 10 := (y 2).isLt; omega⟩ (y 3)) := by
  have hm : broadcastInDim S2x2048x10x1024 ![0, 1, 2] bcast_S2x2048x10_S2x2048x10x1024_0_1_2
      (Host.reduce IntOp.andi inRange (constantI S_ 1 1#1) reducesTo_S2x2048x10x1_S2x2048x10_d3 h_S_) y = 1#1 := by
    refine (broadcastInDim_apply _ _ _ _ (ix3 (y 0) (y 1) (y 2) : S2x2048x10.Idx) (fun d => ?_)).trans (mask_apply _)
    match d with
    | ⟨0, _⟩ => rfl
    | ⟨1, _⟩ => rfl
    | ⟨2, _⟩ => rfl
  unfold looked
  simp only [select, Scalar.select]
  exact (if_pos hm).trans (gather_apply s y)

end Cert.Enc

end
-- ==== Proof.Enc.RefValue.lean ====
/- The reference's result array is the same function of the arguments (`encoded`): the mean over the ten slots adds each
   spatial row twice and divides by ten. -/
module

public import proofs.«01_k».proof.Proof.Enc.Spec
public import proofs.«01_k».proof.Proof.Enc.Mean
public import proofs.«01_k».proof.Proof.Enc.Lookup

@[expose] public section

noncomputable section

namespace Cert.Enc

open Cert.ReferenceIdeal Cert.ReferenceIdeal.Gen Idealize.ShloMosaic Idealize.ShloMosaic.TcCoe Idealize.SL.Sem

/-- The sum over the ten slots at an index, from the initial value zero. -/
theorem slots_apply (s : Vec Ideal S5x1024 .f32) (i : S2x2048x1024.Idx) :
    Host.reduceAdd (looked s) (constant (F := Ideal) S_ .f32 0x00000000#32) reducesTo_S2x2048x10x1024_S2x2048x1024_d2 h_S_ i
      = (0 + ∑ k : Fin 10, s (ix2 ⟨k.val / 2, by omega⟩ (i 2)) : EReal) := by
  refine (Ideal.hostReduceAdd_r4_a2 reducesTo_S2x2048x10x1024_S2x2048x1024_d2 (looked s)
    (Ideal.ofBits .f32 0x00000000#32) i).trans ?_
  rw [Ideal.ofBits_zero_f32]
  exact congrArg (fun z : EReal => 0 + z) (Finset.sum_congr rfl fun k _ => looked_apply s _)

/-- The reference's result at an index. -/
theorem reference_apply (x : Vec Ideal S2x2048x1024 .f32) (p : Vec Ideal S1x2048x1024 .f32) (s : Vec Ideal S5x1024 .f32)
    (i : S2x2048x1024.Idx) :
    addf (addf x (broadcastInDim S2x2048x1024 ![0, 1, 2] bcast_S1x2048x1024_S2x2048x1024_0_1_2 p))
      (Host.divf (Host.reduceAdd (looked s) (constant (F := Ideal) S_ .f32 0x00000000#32)
          reducesTo_S2x2048x10x1024_S2x2048x1024_d2 h_S_)
        (broadcastInDim S2x2048x1024 ![] bcast_S_S2x2048x1024 (constant (F := Ideal) S_ .f32 0x41200000#32))) i
      = encoded x p s i := by
  show (x i + broadcastInDim S2x2048x1024 ![0, 1, 2] bcast_S1x2048x1024_S2x2048x1024_0_1_2 p i
    + Ideal.div (Host.reduceAdd (looked s) (constant (F := Ideal) S_ .f32 0x00000000#32)
        reducesTo_S2x2048x10x1024_S2x2048x1024_d2 h_S_ i) (Ideal.ofBits .f32 0x41200000#32) : EReal) = _
  rw [broadcastInDim_apply _ _ p i (ix3 0 (i 1) (i 2)) (fun a => by
      match a with
      | ⟨0, _⟩ => rfl
      | ⟨1, _⟩ => rfl
      | ⟨2, _⟩ => rfl), slots_apply, ofBits_ten, mean_pairs (fun r => s (ix2 r (i 2)))]
  rfl

variable (m : (ℓ : Loc nD τ sig) → Buf (Elt Ideal) ℓ) (ρ : Dev nD → PrngReg)

/-- Every run of the reference ends with the layer's function of the arguments in its result array, the
    arguments as launched. -/
theorem reference_run : θ_run defs (onTc (τ := τ) (main (F := Ideal))) ⟨m, fun _ => 0, ρ⟩ fun r => ∀ c : Dev nD,
    r.2.mem ((c : Thread nD τ).loc main_v8) = encoded (m ((c : Thread nD τ).loc main_arg0))
      (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (funext fun i => reference_apply _ _ _ i), (h c).2⟩)
    (Cert.ReferenceIdeal.Value.run (F := Ideal) m ρ)

end Cert.Enc

end
-- ==== Proof.lean ====
/- The proof of the five claims: both kernel programs and the reference run to the end and leave their arguments as they
   were, the idealized kernel is the kernel with `0.2` read as one fifth, and over the extended reals the idealized kernel
   and the reference compute the same array (`Cert.Enc.encoded`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Enc.KernelValue
public import proofs.«01_k».proof.Proof.Enc.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs to the end on float words, its arguments unchanged and every semaphore at zero. -/
theorem frame_p : Cert.quiescent_Kernel := fun m ρ _ => Cert.Kernel.Gen.frame m ρ

/-- So does the idealized kernel over the extended reals. -/
theorem frame_pi : Cert.quiescent_KernelIdeal := fun m ρ _ => Cert.KernelIdeal.Gen.frame m ρ

/-- So does the reference, which has no semaphore at all. -/
theorem frame_ri : Cert.quiescent_ReferenceIdeal := fun m ρ _ =>
  (θ_run Cert.ReferenceIdeal.defs _ _).mono
    (fun r h => ⟨fun c => (h c).2, sem_eq_zero_of_no_sems (by decide) r.2⟩) (Cert.Enc.reference_run m ρ)

/-- The idealized kernel differs from the kernel in one constant: the float nearest to a fifth is read as one fifth. -/
theorem preserves : Cert.preserves_Kernel_KernelIdeal :=
  IdealRules.named_const.statement Cert.KernelIdeal.κ "fifth" .f32 0x3E4CCCCD#32 ((1 / 5 : ℝ) : EReal) rfl

/-- From equal arguments the idealized kernel and the reference end with equal results over the extended reals: both
    hold `encoded` of the arguments. -/
theorem algebraic : Cert.algebraic_KernelIdeal_ReferenceIdeal := by
  intro m ρ m' ρ' _ hagree
  refine ⟨fun c => Cert.Enc.result m c, Cert.Enc.kernel_run m ρ, ?_⟩
  refine (θ_run Cert.ReferenceIdeal.defs _ _).mono (fun _ h c => ⟨(h c).1.trans ?_, (h c).2⟩) (Cert.Enc.reference_run m' ρ')
  obtain ⟨h0, h1, h2⟩ := hagree c
  rw [h0, h1, h2]

theorem claim : Cert.Claim :=
  ⟨Cert.Kernel.Gen.facts, Cert.KernelIdeal.Gen.facts, Cert.ReferenceIdeal.Gen.facts,
    frame_p, frame_pi, frame_ri, preserves, algebraic⟩

end Cert.Proof

end
